-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S4x128x4096 : Shape := ⟨3, ![4, 128, 4096]⟩
abbrev S64x128 : Shape := ⟨2, ![64, 128]⟩
abbrev S64 : Shape := ⟨1, ![64]⟩
abbrev S128x128 : Shape := ⟨2, ![128, 128]⟩
abbrev S128 : Shape := ⟨1, ![128]⟩
abbrev S_ : Shape := ⟨0, ![]⟩

class Facts : Prop where
  bcast_S_S4x128x4096 : S_.BroadcastsInDim S4x128x4096 (![] : Fin 0 → Fin S4x128x4096.rank)
  reducesTo_S4x128x4096_S_d0_1_2 : S4x128x4096.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4x128x4096 .f32) (main_arg1 : FVec F S64x128 .f32) (main_arg2 : FVec F S64 .f32) (main_arg3 : FVec F S64x128 .f32) (main_arg4 : FVec F S64 .f32) (main_arg5 : FVec F S128x128 .f32) (main_arg6 : FVec F S128 .f32) : IVec S_ 1 :=
  let main_v0 : FVec F S4x128x4096 .f32 := Host.absf main_arg0
  let main_cst : FVec F S_ .f32 := constant S_ .f32 0x7F800000#32
  let main_v1 : FVec F S4x128x4096 .f32 := broadcastInDim S4x128x4096 ![] bcast_S_S4x128x4096 main_cst
  let main_v2 : IVec S4x128x4096 1 := cmpf .olt main_v0 main_v1
  let main_c : IVec S_ 1 := constantI S_ 1 1#1
  let main_v3 : IVec S_ 1 := (fun x v => Host.reduce IntOp.andi x v reducesTo_S4x128x4096_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_v13 main_v16
-- ==== Kernel.lean ====
abbrev S4x128x4096 : Shape := ⟨3, ![4, 128, 4096]⟩
abbrev S64x128 : Shape := ⟨2, ![64, 128]⟩
abbrev S64 : Shape := ⟨1, ![64]⟩
abbrev S128x128 : Shape := ⟨2, ![128, 128]⟩
abbrev S128 : Shape := ⟨1, ![128]⟩
abbrev S64x1 : Shape := ⟨2, ![64, 1]⟩
abbrev S128x1 : Shape := ⟨2, ![128, 1]⟩
abbrev S1x128x4096 : Shape := ⟨3, ![1, 128, 4096]⟩
abbrev S1x128x2048 : Shape := ⟨3, ![1, 128, 2048]⟩
abbrev S64x4096 : Shape := ⟨2, ![64, 4096]⟩
abbrev S144x4096 : Shape := ⟨2, ![144, 4096]⟩
abbrev S128x4096 : Shape := ⟨2, ![128, 4096]⟩
abbrev S16x4096 : Shape := ⟨2, ![16, 4096]⟩
abbrev S128x2048 : Shape := ⟨2, ![128, 2048]⟩
abbrev S64x2048 : Shape := ⟨2, ![64, 2048]⟩
abbrev S64x512 : Shape := ⟨2, ![64, 512]⟩
abbrev S2048x512 : Shape := ⟨2, ![2048, 512]⟩
abbrev S144x512 : Shape := ⟨2, ![144, 512]⟩
abbrev S144x2048 : Shape := ⟨2, ![144, 2048]⟩
abbrev S1x2048 : Shape := ⟨2, ![1, 2048]⟩

abbrev nBuf : Space → Nat
  | .hbm => 11
  | .vmem => 12
  | .smem => 0
  | _ => 0

abbrev bufTy : (tb : Table) → Fin (tcTables nBuf tb) → BufTy
  | .hbm, ⟨0, _⟩ => ⟨S4x128x4096, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S64, .f32⟩
  | .hbm, ⟨5, _⟩ => ⟨S128x128, .f32⟩
  | .hbm, ⟨6, _⟩ => ⟨S128, .f32⟩
  | .hbm, ⟨7, _⟩ => ⟨S64x1, .f32⟩
  | .hbm, ⟨8, _⟩ => ⟨S64x1, .f32⟩
  | .hbm, ⟨9, _⟩ => ⟨S128x1, .f32⟩
  | .hbm, ⟨10, _⟩ => ⟨S4x128x4096, .f32⟩
  | .local _ .vmem, ⟨0, _⟩ => ⟨S1x128x4096, .f32⟩
  | .local _ .vmem, ⟨1, _⟩ => ⟨S1x128x4096, .f32⟩
  | .local _ .vmem, ⟨2, _⟩ => ⟨S64x128, .f32⟩
  | .local _ .vmem, ⟨3, _⟩ => ⟨S64x1, .f32⟩
  | .local _ .vmem, ⟨4, _⟩ => ⟨S64x128, .f32⟩
  | .local _ .vmem, ⟨5, _⟩ => ⟨S64x1, .f32⟩
  | .local _ .vmem, ⟨6, _⟩ => ⟨S128x128, .f32⟩
  | .local _ .vmem, ⟨7, _⟩ => ⟨S128x1, .f32⟩
  | .local _ .vmem, ⟨8, _⟩ => ⟨S1x128x2048, .f32⟩
  | .local _ .vmem, ⟨9, _⟩ => ⟨S1x128x2048, .f32⟩
  | .local _ .vmem, ⟨10, _⟩ => ⟨S64x4096, .bf16⟩
  | .local _ .vmem, ⟨11, _⟩ => ⟨S144x4096, .bf16⟩
  | _, _ => ⟨S4x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 2], ![false, false]⟩

def k0_off1 (i : grid0.Coords) : Fin 3 → Nat :=
  let c0 : Index := 0#32
  let c0_1 : Index := 0#32
  let arg1 : BitVec 32 := BitVec.ofNat 32 (i 1).val
  let c2048_i32 : BitVec 32 := 2048#32
  let v3 : BitVec 32 := Scalar.muli arg1 c2048_i32
  let v4 : Index := Scalar.indexCast v3
  ![0, 0, v4.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x128x4096 : Shape := ⟨3, ![4, 128, 4096]⟩
abbrev S64x128 : Shape := ⟨2, ![64, 128]⟩
abbrev S64 : Shape := ⟨1, ![64]⟩
abbrev S128x128 : Shape := ⟨2, ![128, 128]⟩
abbrev S128 : Shape := ⟨1, ![128]⟩
abbrev S4x4096x64 : Shape := ⟨3, ![4, 4096, 64]⟩
abbrev S1x1x64 : Shape := ⟨3, ![1, 1, 64]⟩
abbrev S4x64x4096 : Shape := ⟨3, ![4, 64, 4096]⟩
abbrev S1x64x1 : Shape := ⟨3, ![1, 64, 1]⟩
abbrev S4x4096x128 : Shape := ⟨3, ![4, 4096, 128]⟩
abbrev S1x128x1 : Shape := ⟨3, ![1, 128, 1]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x128x4096, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S64, .f32⟩
  | .hbm, ⟨5, _⟩ => ⟨S128x128, .f32⟩
  | .hbm, ⟨6, _⟩ => ⟨S128, .f32⟩
  | .hbm, ⟨7, _⟩ => ⟨S4x4096x64, .f32⟩
  | .hbm, ⟨8, _⟩ => ⟨S1x1x64, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S4x64x4096, .f32⟩
  | .hbm, ⟨13, _⟩ => ⟨S1x64x1, .f32⟩
  | .hbm, ⟨14, _⟩ => ⟨S4x64x4096, .f32⟩
  | .hbm, ⟨15, _⟩ => ⟨S4x64x4096, .f32⟩
  | .hbm, ⟨16, _⟩ => ⟨S4x4096x128, .f32⟩
  | .hbm, ⟨17, _⟩ => ⟨S4x128x4096, .f32⟩
  | .hbm, ⟨18, _⟩ => ⟨S1x128x1, .f32⟩
  | .hbm, ⟨19, _⟩ => ⟨S4x128x4096, .f32⟩
  | .hbm, ⟨20, _⟩ => ⟨S4x128x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x128x4096, .f32⟩
  | _, _ => ⟨S4x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.Softmax.lean ====
module

public import Idealize.ShloMosaic.Lib.Pipeline.ValueKit

/- The scalar mathematics of the certificate: weights that are exponentials of real scores, normalised by their sum, come
   out the same whether the scores are first shifted by a real number or not. -/

@[expose] public section

noncomputable section

open Idealize.ShloMosaic

namespace Cert.Attn

/-- A sum of reals, each read as an extended real, is the real sum read as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplying a sum of extended reals by a nonnegative real multiplies each term. -/
theorem sum_mul_coe {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert b s hb ih =>
    rw [Finset.sum_insert hb, Finset.sum_insert hb, ← ih]
    exact EReal.right_distrib_of_nonneg_of_ne_top (by exact_mod_cast ha) (EReal.coe_ne_top a) _ _

/-- The quotient of two reals, the divisor not zero, is the real quotient. -/
theorem div_real (a b : ℝ) (hb : b ≠ 0) : Ideal.div (a : EReal) (b : EReal) = ((a / b : ℝ) : EReal) := by
  rw [Ideal.div_coe hb, ← EReal.coe_mul, mul_one_div]

/-- Weighted sums with exponential weights: dividing the weighted sum by the sum of the weights gives what the weights
    of the scores shifted by any real `M`, each divided by their sum, give. -/
theorem softmax_shift {n : ℕ} [NeZero n] (e : Fin n → ℝ) (M : ℝ) (v : Fin n → EReal) :
    (∑ i, v i * Ideal.exp (e i : EReal)) * Ideal.div 1 (∑ i, 1 * Ideal.exp (e i : EReal))
      = ∑ i, v i * Ideal.div (Ideal.exp ((e i : EReal) - (M : EReal))) (∑ j, Ideal.exp ((e j : EReal) - (M : EReal))) := by
  have hpos : ∀ f : Fin n → ℝ, (0 : ℝ) < ∑ i, Real.exp (f i) := fun f =>
    Finset.sum_pos (fun i _ => Real.exp_pos _) ⟨0, Finset.mem_univ _⟩
  have h1 : (∑ i, 1 * Ideal.exp (e i : EReal)) = ((∑ i, Real.exp (e i) : ℝ) : EReal) := by
    rw [← coe_sum]; exact Finset.sum_congr rfl fun i _ => one_mul _
  have h2 : (∑ j, Ideal.exp ((e j : EReal) - (M : EReal))) = ((∑ j, Real.exp (e j - M) : ℝ) : EReal) := by
    rw [← coe_sum]; exact Finset.sum_congr rfl fun i _ => by rw [← EReal.coe_sub]; rfl
  have h3 : (∑ j, Real.exp (e j - M)) = (∑ j, Real.exp (e j)) * Real.exp (-M) := by
    rw [Finset.sum_mul]; exact Finset.sum_congr rfl fun i _ => by rw [sub_eq_add_neg, Real.exp_add]
  have hS := hpos e
  rw [h1, h2, ← EReal.coe_one, div_real _ _ hS.ne', sum_mul_coe _ _ _ (by positivity)]
  refine Finset.sum_congr rfl fun i _ => ?_
  rw [← EReal.coe_sub]
  show v i * ((Real.exp (e i) : ℝ) : EReal) * _ = v i * Ideal.div ((Real.exp (e i - M) : ℝ) : EReal) _
  rw [div_real _ _ (hpos fun j => e j - M).ne', mul_assoc, ← EReal.coe_mul, h3]
  congr 2
  have := (Real.exp_pos (-M)).ne'
  rw [sub_eq_add_neg, Real.exp_add, mul_div_mul_right _ _ this, mul_one_div]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- A sum of products of reals plus a real is a real. -/
theorem dot_real {n : ℕ} {a b : Fin n → EReal} (ha : ∀ i, ∃ r : ℝ, a i = (r : EReal)) (hb : ∀ i, ∃ r : ℝ, b i = (r : EReal)) :
    ∃ r : ℝ, ∑ i, a i * b i = (r : EReal) := by
  choose f hf using ha
  choose g hg using hb
  refine ⟨∑ i, f i * g i, ?_⟩
  rw [← coe_sum]
  exact Finset.sum_congr rfl fun i _ => by rw [hf, hg, EReal.coe_mul]

/-- A sum of two reals is a real. -/
theorem add_real {a b : EReal} (ha : ∃ r : ℝ, a = (r : EReal)) (hb : ∃ r : ℝ, b = (r : EReal)) : ∃ r : ℝ, a + b = (r : EReal) := by
  obtain ⟨f, rfl⟩ := ha
  obtain ⟨g, rfl⟩ := hb
  exact ⟨f + g, (EReal.coe_add f g).symm⟩

/-- A sum over 4096 positions, taken as eight consecutive sums over 512. -/
theorem sum_eight (f : Fin 4096 → EReal) :
    (∑ k : Fin 512, f ⟨k, by omega⟩) + (∑ k : Fin 512, f ⟨512 + k, by omega⟩) + (∑ k : Fin 512, f ⟨1024 + k, by omega⟩)
      + (∑ k : Fin 512, f ⟨1536 + k, by omega⟩) + (∑ k : Fin 512, f ⟨2048 + k, by omega⟩)
      + (∑ k : Fin 512, f ⟨2560 + k, by omega⟩) + (∑ k : Fin 512, f ⟨3072 + k, by omega⟩)
      + (∑ k : Fin 512, f ⟨3584 + k, by omega⟩) = ∑ k, f k := by
  rw [← Fin.sum_mul_add_fin 8 512 f rfl, Fin.sum_univ_eight]
  congr 1

end Cert.Attn

end
-- ==== Proof.Spec.lean ====
module

public import proofs.«01_k».proof.Proof.Softmax

/- The layer's arithmetic on arrays of extended reals: the projections of the input by a weight matrix and a bias, and the
   scores of a pair of positions. Both programs are read in these terms. -/

@[expose] public section

noncomputable section

open Idealize.ShloMosaic

namespace Cert.Attn

/-- The projection of image `i` at position `n` on output channel `r`: a weighted sum over the 128 input channels, plus
    the channel's bias. -/
def proj {o : ℕ} (x : (⟨3, ![4, 128, 4096]⟩ : Shape).Idx → EReal) (w : (⟨2, ![o, 128]⟩ : Shape).Idx → EReal)
    (b : (⟨1, ![o]⟩ : Shape).Idx → EReal) (i : Fin 4) (r : Fin o) (n : Fin 4096) : EReal :=
  ∑ d : Fin 128, w (ix2 r d) * x (ix3 i d n) + b (ix1 r)

/-- The score of position `j` for the query at position `n` of image `i`. -/
def score (x : (⟨3, ![4, 128, 4096]⟩ : Shape).Idx → EReal) (wq : (⟨2, ![64, 128]⟩ : Shape).Idx → EReal)
    (bq : (⟨1, ![64]⟩ : Shape).Idx → EReal) (wk : (⟨2, ![64, 128]⟩ : Shape).Idx → EReal)
    (bk : (⟨1, ![64]⟩ : Shape).Idx → EReal) (i : Fin 4) (n j : Fin 4096) : EReal :=
  ∑ k : Fin 64, proj x wq bq i k n * proj x wk bk i k j

/-- What the kernel computes: the weighted sum of the values with the exponentials of the scores for weights, times the
    reciprocal of the sum of the weights. -/
def unshifted (e v : Fin 4096 → EReal) : EReal :=
  (∑ j, v j * Ideal.exp (e j)) * Ideal.div 1 (∑ j, 1 * Ideal.exp (e j))

/-- What the reference computes: the greatest score is subtracted from every score before the exponential, and each
    weight is divided by the sum of the weights before the weighted sum is taken. -/
def shifted (e v : Fin 4096 → EReal) : EReal :=
  ∑ j, v j * Ideal.div (Ideal.exp (e j - max ⊥ (Finset.univ.fold max ⊥ e)))
    (∑ l, Ideal.exp (e l - max ⊥ (Finset.univ.fold max ⊥ e)))

/-- The projection of real arrays is real. -/
theorem proj_real {o : ℕ} {x : (⟨3, ![4, 128, 4096]⟩ : Shape).Idx → EReal} {w : (⟨2, ![o, 128]⟩ : Shape).Idx → EReal}
    {b : (⟨1, ![o]⟩ : Shape).Idx → EReal} (hx : ∀ y, ∃ r : ℝ, x y = (r : EReal)) (hw : ∀ y, ∃ r : ℝ, w y = (r : EReal))
    (hb : ∀ y, ∃ r : ℝ, b y = (r : EReal)) (i : Fin 4) (r : Fin o) (n : Fin 4096) :
    ∃ s : ℝ, proj x w b i r n = (s : EReal) :=
  add_real (dot_real (fun _ => hw _) fun _ => hx _) (hb _)

/-- The greatest of finitely many reals, the fold started at −∞, is a real. -/
theorem fold_max_real {n : ℕ} [NeZero n] (e : Fin n → ℝ) :
    ∃ M : ℝ, max ⊥ (Finset.univ.fold max ⊥ fun i => (e i : EReal)) = (M : EReal) := by
  have key : ∀ s : Finset (Fin n), s.Nonempty → ∃ M : ℝ, (s.fold max ⊥ fun i => (e i : EReal)) = (M : EReal) := by
    intro s hs
    induction hs using Finset.Nonempty.cons_induction with
    | singleton a => exact ⟨e a, by simp⟩
    | cons a s ha hs ih =>
      obtain ⟨M, hM⟩ := ih
      exact ⟨max (e a) M, by rw [Finset.fold_cons, hM, EReal.coe_strictMono.monotone.map_max]⟩
  obtain ⟨M, hM⟩ := key Finset.univ ⟨0, Finset.mem_univ _⟩
  exact ⟨M, by rw [hM]; exact max_eq_right bot_le⟩

/-- With real scores the two spellings of the layer agree, whatever the values. -/
theorem unshifted_eq_shifted (e v : Fin 4096 → EReal) (he : ∀ j, ∃ r : ℝ, e j = (r : EReal)) : unshifted e v = shifted e v := by
  choose f hf using he
  obtain rfl : e = fun j => (f j : EReal) := funext hf
  obtain ⟨M, hM⟩ := fold_max_real f
  unfold unshifted shifted
  rw [hM]
  exact softmax_shift f M v

end Cert.Attn

end
-- ==== Proof.Finite.lean ====
module

public import proofs.«01_k».proof.Pre_finite_scores
public import proofs.«01_k».proof.Proof.Gen.Pre_finite_scores
public import proofs.«01_k».proof.Proof.Spec
public import Idealize.ShloMosaic.Lib.ReduceAll

/- The precondition read back: every entry of the input, of the query weights and bias and of the key weights and bias is a
   real number. -/

@[expose] public section

set_option maxRecDepth 16384

noncomputable section

open Idealize.ShloMosaic

namespace Cert.Pre_finite_scores

open Cert.Pre_finite_scores Cert.Pre_finite_scores.Gen Cert.Attn

/-- The bit pattern of +∞ is +∞. -/
theorem pos_inf : Ideal.ofBits FTy.f32 2139095040#32 = ⊤ := by
  simp [Ideal.ofBits, Ideal.ieee]

/-- An array whose entries' absolute values were all found to be below +∞ holds reals only. -/
theorem real_of_all {s t u : Shape} {axes : List (Fin s.rank)} [Subsingleton t.Idx] (x : FVec Ideal s .f32)
    (hb : (⟨0, ![]⟩ : Shape).BroadcastsInDim s ![]) (init : u.Idx → BitVec 1) (h : s.ReducesTo axes t) (hu : 0 < u.numel) (j : t.Idx)
    (e : Host.reduce IntOp.andi (cmpf .olt (Host.absf x) (broadcastInDim s ![] hb (constant ⟨0, ![]⟩ .f32 0x7F800000#32))) init h hu j = 1#1)
    (i : s.Idx) : ∃ r : ℝ, x i = (r : EReal) := by
  have h1 := Host.reduce_andi_all _ _ _ _ _ e i
  refine real_of_abs_lt_top (x i) ?_
  rw [← pos_inf]
  have h2 : BitVec.ofBool (decide (max (x i) (-(x i)) < Ideal.ofBits FTy.f32 2139095040#32)) = 1#1 := h1
  by_contra hc
  rw [decide_eq_false hc] at h2
  exact absurd h2 (by decide)

instance : Subsingleton S_.Idx := ⟨fun a b => funext fun d => d.elim0⟩

/-- What the precondition says. -/
theorem finite (a0 : FVec Ideal S4x128x4096 .f32) (a1 : FVec Ideal S64x128 .f32) (a2 : FVec Ideal S64 .f32)
    (a3 : FVec Ideal S64x128 .f32) (a4 : FVec Ideal S64 .f32) (a5 : FVec Ideal S128x128 .f32) (a6 : FVec Ideal S128 .f32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h' := congrFun h (fun d => d.elim0)
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨real_of_all a0 _ _ _ _ _ e0, real_of_all a1 _ _ _ _ _ e1, real_of_all a2 _ _ _ _ _ e2, real_of_all a3 _ _ _ _ _ e3,
    real_of_all a4 _ _ _ _ _ e4⟩

end Cert.Pre_finite_scores

end
-- ==== Proof.Reference.lean ====
module

public import proofs.«01_k».proof.Proof.Gen.ReferenceIdeal.Run
public import proofs.«01_k».proof.Proof.Spec

/- What the reference computes, index by index: its program's term, cut into the projections, the scores and the softmax. -/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Attn

/-- The queries, [image, position, channel]. -/
def refQ (x : FVec Ideal S4x128x4096 .f32) (w : FVec Ideal S64x128 .f32) (b : FVec Ideal S64 .f32) : FVec Ideal S4x4096x64 .f32 :=
  addf (Host.dotGeneral dot_S4x128x4096_S64x128_S4x4096x64_1_1_02_0_n_n none x w)
    (broadcastInDim S4x4096x64 ![0, 1, 2] bcast_S1x1x64_S4x4096x64_0_1_2 (broadcastInDim S1x1x64 ![2] bcast_S64_S1x1x64_2 b))

/-- The keys, [image, channel, position]. -/
def refK (x : FVec Ideal S4x128x4096 .f32) (w : FVec Ideal S64x128 .f32) (b : FVec Ideal S64 .f32) : FVec Ideal S4x64x4096 .f32 :=
  addf (transpose S4x64x4096 [0, 2, 1] (Host.dotGeneral dot_S4x128x4096_S64x128_S4x4096x64_1_1_02_0_n_n none x w)
      transposes_S4x4096x64_S4x64x4096_0_2_1)
    (broadcastInDim S4x64x4096 ![0, 1, 2] bcast_S1x64x1_S4x64x4096_0_1_2 (broadcastInDim S1x64x1 ![1] bcast_S64_S1x64x1_1 b))

/-- The values, [image, channel, position]. -/
def refV (x : FVec Ideal S4x128x4096 .f32) (w : FVec Ideal S128x128 .f32) (b : FVec Ideal S128 .f32) : FVec Ideal S4x128x4096 .f32 :=
  addf (transpose S4x128x4096 [0, 2, 1] (Host.dotGeneral dot_S4x128x4096_S128x128_S4x4096x128_1_1_02_0_n_n none x w)
      transposes_S4x4096x128_S4x128x4096_0_2_1)
    (broadcastInDim S4x128x4096 ![0, 1, 2] bcast_S1x128x1_S4x128x4096_0_1_2 (broadcastInDim S1x128x1 ![1] bcast_S128_S1x128x1_1 b))

/-- The scores, [image, query position, key position]. -/
def refE (q : FVec Ideal S4x4096x64 .f32) (k : FVec Ideal S4x64x4096 .f32) : FVec Ideal S4x4096x4096 .f32 :=
  Host.dotGeneral dot_S4x4096x64_S4x64x4096_S4x4096x4096_2_1_1_2_0_0 none q k

/-- The greatest score of each row, the maximum taken from −∞. -/
def refM (e : FVec Ideal S4x4096x4096 .f32) : FVec Ideal S4x4096 .f32 :=
  Host.reduce FloatOps.maximumf e (constant S_ .f32 0xFF800000#32) reducesTo_S4x4096x4096_S4x4096_d2 h_S_

/-- The exponentials of the scores less the greatest score of their row. -/
def refP (e : FVec Ideal S4x4096x4096 .f32) (r : FVec Ideal S4x4096 .f32) : FVec Ideal S4x4096x4096 .f32 :=
  Host.exp (subf e (broadcastInDim S4x4096x4096 ![0, 1, 2] bcast_S4x4096x1_S4x4096x4096_0_1_2
    (broadcastInDim S4x4096x1 ![0, 1] bcast_S4x4096_S4x4096x1_0_1
      (maximumf (broadcastInDim S4x4096 ![] bcast_S_S4x4096 (constant S_ .f32 0xFF800000#32)) r))))

/-- The weighted sums of the values, the weights normalised. -/
def refO (v : FVec Ideal S4x128x4096 .f32) (p : FVec Ideal S4x4096x4096 .f32) : FVec Ideal S4x128x4096 .f32 :=
  Host.dotGeneral dot_S4x128x4096_S4x4096x4096_S4x128x4096_2_2_1_1_0_0 none v
    (Host.divf p (broadcastInDim S4x4096x4096 ![0, 1, 2] bcast_S4x4096x1_S4x4096x4096_0_1_2
      (broadcastInDim S4x4096x1 ![0, 1] bcast_S4x4096_S4x4096x1_0_1
        (Host.reduceAdd p (constant S_ .f32 0x00000000#32) reducesTo_S4x4096x4096_S4x4096_d2 h_S_))))

/-- The unnormalised weights of an array of scores. -/
def refSoft (e : FVec Ideal S4x4096x4096 .f32) : FVec Ideal S4x4096x4096 .f32 := refP e (refM e)

/-- The reference's term is the stages composed. -/
theorem res_stages (m : (ℓ : Loc nD τ sig) → Buf (Elt Ideal) ℓ) (c : Dev nD) :
    res_main_v26 m c = refO (refV (m ((c.tc : Thread nD τ).loc main_arg0)) (m ((c.tc : Thread nD τ).loc main_arg5)) (m ((c.tc : Thread nD τ).loc main_arg6)))
      (refSoft (refE (refQ (m ((c.tc : Thread nD τ).loc main_arg0)) (m ((c.tc : Thread nD τ).loc main_arg1)) (m ((c.tc : Thread nD τ).loc main_arg2)))
        (refK (m ((c.tc : Thread nD τ).loc main_arg0)) (m ((c.tc : Thread nD τ).loc main_arg3)) (m ((c.tc : Thread nD τ).loc main_arg4))))) := by
  unfold res_main_v26; rfl

/-- A query is a projection. -/
theorem refQ_at (x : FVec Ideal S4x128x4096 .f32) (w : FVec Ideal S64x128 .f32) (b : FVec Ideal S64 .f32) (i : Fin 4) (n : Fin 4096)
    (k : Fin 64) : refQ x w b (ix3 i n k) = proj x w b i k n := by
  pointwise [refQ, proj]
  ac_nf

/-- A key is a projection. -/
theorem refK_at (x : FVec Ideal S4x128x4096 .f32) (w : FVec Ideal S64x128 .f32) (b : FVec Ideal S64 .f32) (i : Fin 4) (k : Fin 64)
    (n : Fin 4096) : refK x w b (ix3 i k n) = proj x w b i k n := by
  pointwise [refK, proj]
  ac_nf

/-- A value is a projection. -/
theorem refV_at (x : FVec Ideal S4x128x4096 .f32) (w : FVec Ideal S128x128 .f32) (b : FVec Ideal S128 .f32) (i : Fin 4) (d : Fin 128)
    (n : Fin 4096) : refV x w b (ix3 i d n) = proj x w b i d n := by
  pointwise [refV, proj]
  ac_nf

/-- A score is the product of a query and a key. -/
theorem refE_at (q : FVec Ideal S4x4096x64 .f32) (k : FVec Ideal S4x64x4096 .f32) (i : Fin 4) (n j : Fin 4096) :
    refE q k (ix3 i n j) = (∑ l : Fin 64, q (ix3 i n l) * k (ix3 i l j) : EReal) := by
  pointwise [refE]

/-- The bit pattern of −∞ is −∞. -/
theorem neg_inf : Ideal.ofBits FTy.f32 4286578688#32 = ⊥ := by
  simp [Ideal.ofBits, Ideal.ieee]

/-- A maximum over the last of three axes is the fold of `max` over that axis. -/
theorem rowMax {a b n : ℕ} (e : (⟨3, ![a, b, n]⟩ : Shape).Idx → EReal) (v : S_.Idx → EReal)
    (h' : (⟨3, ![a, b, n]⟩ : Shape).ReducesTo [2] ⟨2, ![a, b]⟩) (h : (⟨3, ![a, b, n]⟩ : Shape).Reduces [2] ⟨2, ![a, b]⟩)
    (hu : 0 < S_.numel) (i : Fin a) (j : Fin b) :
    Host.reduce (α := EReal) max e v h' hu (ix2 i j)
      = Finset.univ.fold max (v (Shape.Idx.first hu)) fun l : Fin n => e (ix3 i j l) := by
  rw [Host.reduce_eq_fold_single _ e v h' h]
  congr 1
  funext l
  refine congrArg e (funext fun d => ?_)
  fin_cases d <;> rfl

/-- The greatest score of a row. -/
theorem refM_at (e : FVec Ideal S4x4096x4096 .f32) (i : Fin 4) (n : Fin 4096) :
    refM e (ix2 i n) = Finset.univ.fold max ⊥ fun l : Fin 4096 => e (ix3 i n l) := by
  rw [← neg_inf]
  exact rowMax e _ reducesTo_S4x4096x4096_S4x4096_d2 (by decide) h_S_ i n

/-- An unnormalised weight, the row's greatest score given. -/
theorem refP_at (e : FVec Ideal S4x4096x4096 .f32) (r : FVec Ideal S4x4096 .f32) (i : Fin 4) (n j : Fin 4096) :
    refP e r (ix3 i n j) = Ideal.exp (e (ix3 i n j) - max ⊥ (r (ix2 i n))) := by
  pointwise [refP]
  rw [neg_inf]

/-- An unnormalised weight. -/
theorem refSoft_at (e : FVec Ideal S4x4096x4096 .f32) (i : Fin 4) (n j : Fin 4096) :
    refSoft e (ix3 i n j) = Ideal.exp (e (ix3 i n j) - max ⊥ (Finset.univ.fold max ⊥ fun l : Fin 4096 => e (ix3 i n l))) := by
  rw [← refM_at]; exact refP_at e (refM e) i n j

/-- A result entry. -/
theorem refO_at (v : FVec Ideal S4x128x4096 .f32) (p : FVec Ideal S4x4096x4096 .f32) (i : Fin 4) (d : Fin 128) (n : Fin 4096) :
    refO v p (ix3 i d n) = (∑ j : Fin 4096, v (ix3 i d j) * Ideal.div (p (ix3 i n j)) (∑ l : Fin 4096, p (ix3 i n l)) : EReal) := by
  pointwise [refO]

/-- Entry (i, d, n) of the reference's result. -/
theorem res_at (m : (ℓ : Loc nD τ sig) → Buf (Elt Ideal) ℓ) (c : Dev nD) (i : Fin 4) (d : Fin 128) (n : Fin 4096) :
    res_main_v26 m c (ix3 i d n) = shifted
      (score (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) i n)
      (proj (m ((c.tc : Thread nD τ).loc main_arg0)) (m ((c.tc : Thread nD τ).loc main_arg5)) (m ((c.tc : Thread nD τ).loc main_arg6)) i d) := by
  rw [res_stages]
  refine (refO_at _ _ i d n).trans ?_
  simp only [refSoft_at, refE_at, refQ_at, refK_at, refV_at]
  rfl

end Cert.ReferenceIdeal.Value

end
-- ==== Proof.Body.lean ====
module

public import proofs.«01_k».proof.Proof.Gen.KernelIdeal.Value
public import proofs.«01_k».proof.Proof.Spec

/- What one grid point computes: the output block as a function of the query tile and of the two scratch arrays, and what
   the first of an image's two points leaves in the scratch arrays, index by index. -/

@[expose] public section

set_option maxRecDepth 16384

noncomputable section

open Idealize.ShloMosaic Idealize.ShloMosaic.TcCoe Idealize.SL.Sem

namespace Cert.KernelIdeal.Value

open Cert.KernelIdeal Cert.KernelIdeal.Gen Cert.Attn

/-- The output block computed from the query tile `x`, the query weights and bias, the keys `K` and the values `V` (row
    128 of `V` summing the weights): the eight chunks of 512 positions accumulated, then the division. -/
def tileOut (x : Vec Ideal S1x128x2048 .f32) (wq : Vec Ideal S64x128 .f32) (bq : Vec Ideal S64x1 .f32)
    (K : Vec Ideal S64x4096 .bf16) (V : Vec Ideal S144x4096 .bf16) : FVec Ideal S1x128x2048 .f32 :=
  k0_pay1 (k0_pay6 x wq bq)
    (k0_pay9 (k0_pay6 x wq bq)
      (k0_pay7 x wq bq
        (View.ld K (Rect.unit ![0, 0] S64x512.size inb_S64x4096_S64x512_0_0))
        (View.ld V (Rect.unit ![0, 0] S144x512.size inb_S144x4096_S144x512_0_0))
        (View.ld K (Rect.unit ![0, 512] S64x512.size inb_S64x4096_S64x512_0_512))
        (View.ld V (Rect.unit ![0, 512] S144x512.size inb_S144x4096_S144x512_0_512)))
      (k0_pay8 x wq bq (View.ld K (Rect.unit ![0, 1024] S64x512.size inb_S64x4096_S64x512_0_1024)))
      (View.ld V (Rect.unit ![0, 1024] S144x512.size inb_S144x4096_S144x512_0_1024))
      (View.ld K (Rect.unit ![0, 1536] S64x512.size inb_S64x4096_S64x512_0_1536))
      (View.ld V (Rect.unit ![0, 1536] S144x512.size inb_S144x4096_S144x512_0_1536))
      (View.ld K (Rect.unit ![0, 2048] S64x512.size inb_S64x4096_S64x512_0_2048))
      (View.ld V (Rect.unit ![0, 2048] S144x512.size inb_S144x4096_S144x512_0_2048))
      (View.ld K (Rect.unit ![0, 2560] S64x512.size inb_S64x4096_S64x512_0_2560))
      (View.ld V (Rect.unit ![0, 2560] S144x512.size inb_S144x4096_S144x512_0_2560))
      (View.ld K (Rect.unit ![0, 3072] S64x512.size inb_S64x4096_S64x512_0_3072))
      (View.ld V (Rect.unit ![0, 3072] S144x512.size inb_S144x4096_S144x512_0_3072)))
    (View.ld K (Rect.unit ![0, 3584] S64x512.size inb_S64x4096_S64x512_0_3584))
    (View.ld V (Rect.unit ![0, 3584] S144x512.size inb_S144x4096_S144x512_0_3584))

/-- Entry (0, d, n) of the output block: the sum over all 4096 positions of row `d` of the values, weighted by the
    exponentials of the scores, times the reciprocal of the same sum of row 128. -/
theorem tileOut_at (x : Vec Ideal S1x128x2048 .f32) (wq : Vec Ideal S64x128 .f32) (bq : Vec Ideal S64x1 .f32)
    (K : Vec Ideal S64x4096 .bf16) (V : Vec Ideal S144x4096 .bf16) (y : S1x128x2048.Idx) :
    tileOut x wq bq K V y =
      (∑ j : Fin 4096, V (ix2 ⟨(y 1).val, lt_trans (y 1).isLt (by decide)⟩ j)
          * Ideal.exp (∑ k : Fin 64, k0_pay6 x wq bq (ix2 k (y 2)) * K (ix2 k j) : EReal) : EReal)
        * Ideal.div 1 (∑ j : Fin 4096, V (ix2 128 j)
          * Ideal.exp (∑ k : Fin 64, k0_pay6 x wq bq (ix2 k (y 2)) * K (ix2 k j) : EReal) : EReal) := by
  pointwise [tileOut, k0_pay1, k0_pay9, k0_pay7, k0_pay8]
  rw [← sum_eight fun j => V (ix2 ⟨(y 1).val, lt_trans (y 1).isLt (by decide)⟩ j)
          * Ideal.exp (∑ k : Fin 64, k0_pay6 x wq bq (ix2 k (y 2)) * K (ix2 k j) : EReal),
    ← sum_eight fun j => V (ix2 128 j)
          * Ideal.exp (∑ k : Fin 64, k0_pay6 x wq bq (ix2 k (y 2)) * K (ix2 k j) : EReal)]

/-- A query of the tile: a projection of the input block. -/
theorem query_at (x : Vec Ideal S1x128x2048 .f32) (w : Vec Ideal S64x128 .f32) (b : Vec Ideal S64x1 .f32) (k : Fin 64)
    (n : Fin 2048) :
    k0_pay6 x w b (ix2 k n) = (∑ d : Fin 128, w (ix2 k d) * x (ix3 0 d n) + b (ix2 k 0) : EReal) := by
  pointwise [k0_pay6]

/-- A key: a projection of the whole input block. -/
theorem key_at (x : Vec Ideal S1x128x4096 .f32) (w : Vec Ideal S64x128 .f32) (b : Vec Ideal S64x1 .f32) (k : Fin 64)
    (n : Fin 4096) :
    k0_pay3 x w b (ix2 k n) = (∑ d : Fin 128, w (ix2 k d) * x (ix3 0 d n) + b (ix2 k 0) : EReal) := by
  pointwise [k0_pay3, k0_pay2]

/-- A value: a projection of the whole input block. -/
theorem value_at (x : Vec Ideal S1x128x4096 .f32) (w : Vec Ideal S128x128 .f32) (b : Vec Ideal S128x1 .f32) (k : Fin 128)
    (n : Fin 4096) :
    k0_pay4 x w b (ix2 k n) = (∑ d : Fin 128, w (ix2 k d) * x (ix3 0 d n) + b (ix2 k 0) : EReal) := by
  pointwise [k0_pay4, k0_pay2]

/-- The first row stored below the values is all ones. -/
theorem ones_at (n : Fin 4096) : k0_pay5 (F := Ideal) (ix2 0 n) = (1 : EReal) := by
  pointwise [k0_pay5]

/-- The rectangle of the value rows. -/
abbrev rectLo : Rect S144x4096 := Rect.unit ![0, 0] ![128, 4096] inb_S144x4096_S128x4096_0_0

/-- The rectangle of the sixteen rows below the values. -/
abbrev rectHi : Rect S144x4096 := Rect.unit ![128, 0] ![16, 4096] inb_S144x4096_S16x4096_128_0

/-- Two stores into the value scratch, the lower rows' made last. -/
def stacked (g : Vec Ideal S16x4096 .bf16) (f : Vec Ideal S128x4096 .bf16) : Vec Ideal S144x4096 .bf16 :=
  View.canon [⟨rectHi, g⟩, ⟨rectLo, f⟩]

/-- The value scratch as the first point of an image leaves it: the values in rows 0 to 127, then the sixteen rows of
    which the first is ones. -/
def valueRows (x : Vec Ideal S1x128x4096 .f32) (w : Vec Ideal S128x128 .f32) (b : Vec Ideal S128x1 .f32) : Vec Ideal S144x4096 .bf16 :=
  stacked (k0_pay5 (F := Ideal)) (k0_pay4 x w b)

/-- Row `d` of the upper piece, found in the whole array. -/
theorem emb_lo (d : Fin 128) (n : Fin 4096) :
    (ix2 ⟨d.val, lt_trans d.isLt (by decide)⟩ n : S144x4096.Idx)
      = rectLo.emb (ix2 d n) := by
  funext a
  apply Fin.ext
  match a with
  | ⟨0, _⟩ => show d.val = 0 + 1 * d.val; omega
  | ⟨1, _⟩ => show n.val = 0 + 1 * n.val; omega

/-- The first row of the lower piece, found in the whole array. -/
theorem emb_hi (n : Fin 4096) :
    (ix2 128 n : S144x4096.Idx) = rectHi.emb (ix2 0 n) := by
  funext a
  apply Fin.ext
  match a with
  | ⟨0, _⟩ => rfl
  | ⟨1, _⟩ => show n.val = 0 + 1 * n.val; omega

/-- Of two stores, an index the later one misses and the earlier one holds reads the earlier one's payload. -/
theorem canon_two {Val : EltTy → Type} [∀ e, Nonempty (Val e)] {S : Shape} {e : EltTy} (r₁ r₂ : Rect S) (g : r₁.shape.Idx → Val e)
    (f : r₂.shape.Idx → Val e) (y : S.Idx) (x : r₂.shape.Idx) (hn : y ∉ r₁.set) (hy : y = r₂.emb x) :
    View.canon [(⟨r₁, g⟩ : View.Piece Val S e), ⟨r₂, f⟩] y = f x := by
  rw [View.canon_cons_of_not_mem _ _ hn, hy, View.canon_cons_emb]

/-- An index the last store holds reads its payload. -/
theorem canon_top {Val : EltTy → Type} [∀ e, Nonempty (Val e)] {S : Shape} {e : EltTy} (r₁ : Rect S) (g : r₁.shape.Idx → Val e)
    (L : List (View.Piece Val S e)) (y : S.Idx) (x : r₁.shape.Idx) (hy : y = r₁.emb x) :
    View.canon ((⟨r₁, g⟩ : View.Piece Val S e) :: L) y = g x := by
  rw [hy, View.canon_cons_emb]

/-- Rows below 128 are outside the lower piece. -/
theorem not_mem_hi (d : Fin 128) (n : Fin 4096) :
    (ix2 ⟨d.val, lt_trans d.isLt (by decide)⟩ n : S144x4096.Idx) ∉ rectHi.set := by
  rw [Rect.mem_set_unit]
  intro h
  have h1 : 128 ≤ d.val := (h 0).1
  have h2 := d.isLt
  omega

/-- Of two stacked pieces the upper one is found in rows below 128. -/
theorem stacked_lo (g : Vec Ideal S16x4096 .bf16) (f : Vec Ideal S128x4096 .bf16) (d : Fin 128) (n : Fin 4096) :
    stacked g f (ix2 ⟨d.val, lt_trans d.isLt (by decide)⟩ n) = f (ix2 d n) :=
  canon_two (Val := Elt Ideal) (S := S144x4096) (e := .bf16) rectHi rectLo g f _ (ix2 d n) (not_mem_hi d n) (emb_lo d n)

/-- Of two stacked pieces the lower one starts in row 128. -/
theorem stacked_hi (g : Vec Ideal S16x4096 .bf16) (f : Vec Ideal S128x4096 .bf16) (n : Fin 4096) :
    stacked g f (ix2 128 n) = g (ix2 0 n) :=
  canon_top (Val := Elt Ideal) (S := S144x4096) (e := .bf16) rectHi g [⟨rectLo, f⟩] _ (ix2 0 n) (emb_hi n)

/-- Rows below 128 of the value scratch are the values. -/
theorem valueRows_lo (x : Vec Ideal S1x128x4096 .f32) (w : Vec Ideal S128x128 .f32) (b : Vec Ideal S128x1 .f32) (d : Fin 128)
    (n : Fin 4096) : valueRows x w b (ix2 ⟨d.val, lt_trans d.isLt (by decide)⟩ n) = k0_pay4 x w b (ix2 d n) :=
  stacked_lo _ _ d n

/-- Row 128 of the value scratch is ones. -/
theorem valueRows_hi (x : Vec Ideal S1x128x4096 .f32) (w : Vec Ideal S128x128 .f32) (b : Vec Ideal S128x1 .f32)
    (n : Fin 4096) : valueRows x w b (ix2 128 n) = (1 : EReal) :=
  (stacked_hi _ _ n).trans (ones_at n)

end Cert.KernelIdeal.Value

end
-- ==== Proof.Points.lean ====
module

public import proofs.«01_k».proof.Proof.Body
public import Idealize.ShloMosaic.Lib.Pipeline.ReadBack

/- What the run leaves after each grid point: the scratch arrays after an image's first point, and the output block after
   each of its two points. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- The query tile of point `t`: the columns of the point's input block that the point reads. -/
def queryTile (c : Dev nD) (t : Fin cfg0.N) : Vec Ideal S1x128x2048 .f32 :=
  View.ld (iblk m c 0 t) (Rect.unit (k0_off1 (grid0.coords t)) S1x128x2048.size (k0_off1_inb (grid0.coords t)))

/-- Contents read back through a rectangle from the pieces stored. -/
theorem readCov_ld {κ : Kind} {sp : Space} {s : Shape} {e : EltTy} (v : View sig κ sp s e) (L : List (View.Piece (Elt Ideal) s e))
    (r : Rect s) : v.readCov L r.toLoadRect = View.ld (View.canon L) r :=
  View.readCov_eq_canon' v L r.toLoadRect

/-- After an image's first point the key scratch holds the keys. -/
theorem keys_A (c : Dev nD) (t : Fin cfg0.N) (h0 : t.val % 2 = 0) :
    (outsAt0 m c t.val t.isLt).2.1 = k0_pay3 (iblk m c 0 t) (iblk m c 3 t) (iblk m c 4 t) := by
  funext y
  rw [outsAt0_A m c t h0]
  frame_out

/-- After an image's first point the value scratch holds the values and the row of ones. -/
theorem values_A (c : Dev nD) (t : Fin cfg0.N) (h0 : t.val % 2 = 0) :
    (outsAt0 m c t.val t.isLt).2.2 = valueRows (iblk m c 0 t) (iblk m c 5 t) (iblk m c 6 t) := by
  funext y
  rw [outsAt0_A m c t h0]
  frame_out
  rfl

/-- The output block of an image's first point, from the keys and values it stores itself. -/
theorem out_A (c : Dev nD) (t : Fin cfg0.N) (h0 : t.val % 2 = 0) :
    (outsAt0 m c t.val t.isLt).1 = tileOut (queryTile m c t) (iblk m c 1 t) (iblk m c 2 t)
      (k0_pay3 (iblk m c 0 t) (iblk m c 3 t) (iblk m c 4 t)) (valueRows (iblk m c 0 t) (iblk m c 5 t) (iblk m c 6 t)) := by
  funext y
  rw [outsAt0_A m c t h0]
  frame_out
  simp only [readCov_ld]
  have hK : View.canon [(⟨Rect.unit ![0, 0] ![64, 4096] inb_S64x4096_S64x4096_0_0,
      k0_pay3 (iblk m c 0 t) (iblk m c 3 t) (iblk m c 4 t)⟩ : View.Piece (Elt Ideal) S64x4096 .bf16)]
      = k0_pay3 (iblk m c 0 t) (iblk m c 3 t) (iblk m c 4 t) :=
    View.canon_cons_unit_lit (Val := Elt Ideal) (S := S64x4096) inb_S64x4096_S64x4096_0_0 _ [] (by decide)
  rw [hK]
  rfl

/-- The output block of an image's second point, from the scratch arrays the first point left. -/
theorem out_B (c : Dev nD) (t : Fin cfg0.N) (h0 : ¬t.val % 2 = 0) :
    (outsAt0 m c t.val t.isLt).1 = tileOut (queryTile m c t) (iblk m c 1 t) (iblk m c 2 t)
      (outsAt0 m c (t.val - 1) (lt_of_le_of_lt (Nat.sub_le _ _) t.isLt)).2.1
      (outsAt0 m c (t.val - 1) (lt_of_le_of_lt (Nat.sub_le _ _) t.isLt)).2.2 := by
  funext y
  rw [outsAt0_B m c t h0]
  frame_out
  simp only [read_unread_whole]
  rfl

end Cert.KernelIdeal.Value

end
-- ==== Proof.Blocks.lean ====
module

public import proofs.«01_k».proof.Proof.Points
public import Idealize.ShloMosaic.Lib.Claim

/- What each input block of a grid point holds, in terms of the arguments: point `t` works on image `t / 2`, and reads the
   columns from `2048 * (t % 2)` on for its queries. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- Where the blocks of grid point `t` lie, decided over the eight points. -/
theorem idx : ∀ t : Fin cfg0.N, win0_0.index t = ![t.val / 2, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val / 2, 0, t.val % 2] ∧ (grid0.coords t 1).val = t.val % 2 ∧ t.val / 2 < 4 :=
  (by decide +kernel : ∀ t : Fin grid0.N, _)

/-- The image grid point `t` works on. -/
def image (t : Fin cfg0.N) : Fin 4 := ⟨t.val / 2, (idx t).2.2.2.2.2.2.2.2.2⟩

/-- The input block is the image. -/
theorem blk0 (c : Dev nD) (t : Fin cfg0.N) (d : Fin 128) (n : Fin 4096) :
    (show Vec Ideal S1x128x4096 .f32 from iblk m c 0 t) (ix3 0 d n) = m ((c : Thread nD τ).loc main_arg0) (ix3 (image t) d n) := by
  blk_ext [iblk, V, idx t, image]

/-- The query tile is the image's columns from `2048 * (t % 2)` on. -/
theorem tile_at (c : Dev nD) (t : Fin cfg0.N) (d : Fin 128) (n : Fin 2048) :
    queryTile m c t (ix3 0 d n) = m ((c : Thread nD τ).loc main_arg0)
      (ix3 (image t) d ⟨2048 * (t.val % 2) + n.val, by have := n.isLt; omega⟩) := by
  unfold queryTile
  have hc := (idx t).2.2.2.2.2.2.2.2.1
  pointwise [k0_off1_eq]
  blk_ext [iblk, V, idx t, image, hc]

/-- The query weights. -/
theorem blk1 (c : Dev nD) (t : Fin cfg0.N) (k : Fin 64) (d : Fin 128) :
    (show Vec Ideal S64x128 .f32 from iblk m c 1 t) (ix2 k d) = m ((c : Thread nD τ).loc main_arg1) (ix2 k d) := by
  blk_ext [iblk, V, idx t]

/-- The query bias, as a column. -/
theorem blk2 (c : Dev nD) (t : Fin cfg0.N) (k : Fin 64) :
    (show Vec Ideal S64x1 .f32 from iblk m c 2 t) (ix2 k 0) = m ((c : Thread nD τ).loc main_arg2) (ix1 k) := by
  blk_point [iblk, idx t]

/-- The key weights. -/
theorem blk3 (c : Dev nD) (t : Fin cfg0.N) (k : Fin 64) (d : Fin 128) :
    (show Vec Ideal S64x128 .f32 from iblk m c 3 t) (ix2 k d) = m ((c : Thread nD τ).loc main_arg3) (ix2 k d) := by
  blk_ext [iblk, V, idx t]

/-- The key bias, as a column. -/
theorem blk4 (c : Dev nD) (t : Fin cfg0.N) (k : Fin 64) :
    (show Vec Ideal S64x1 .f32 from iblk m c 4 t) (ix2 k 0) = m ((c : Thread nD τ).loc main_arg4) (ix1 k) := by
  blk_point [iblk, idx t]

/-- The value weights. -/
theorem blk5 (c : Dev nD) (t : Fin cfg0.N) (k : Fin 128) (d : Fin 128) :
    (show Vec Ideal S128x128 .f32 from iblk m c 5 t) (ix2 k d) = m ((c : Thread nD τ).loc main_arg5) (ix2 k d) := by
  blk_ext [iblk, V, idx t]

/-- The value bias, as a column. -/
theorem blk6 (c : Dev nD) (t : Fin cfg0.N) (k : Fin 128) :
    (show Vec Ideal S128x1 .f32 from iblk m c 6 t) (ix2 k 0) = m ((c : Thread nD τ).loc main_arg6) (ix1 k) := by
  blk_point [iblk, idx t]

end Cert.KernelIdeal.Value

end
-- ==== Proof.Result.lean ====
module

public import proofs.«01_k».proof.Proof.Blocks

/- The kernel's result array: entry (i, d, n) is the weighted sum of row `d` of image `i`'s values, the weights being the
   exponentials of the scores of query `n`, times the reciprocal of the sum of the weights. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- The scores on core `c`, from the arguments. -/
def scores (c : Dev nD) (i : Fin 4) (n : Fin 4096) : Fin 4096 → EReal :=
  score (m ((c : Thread nD τ).loc main_arg0)) (m ((c : Thread nD τ).loc main_arg1)) (m ((c : Thread nD τ).loc main_arg2))
    (m ((c : Thread nD τ).loc main_arg3)) (m ((c : Thread nD τ).loc main_arg4)) i n

/-- Row `d` of the values of image `i` on core `c`, from the arguments. -/
def vals (c : Dev nD) (i : Fin 4) (d : Fin 128) : Fin 4096 → EReal :=
  proj (m ((c : Thread nD τ).loc main_arg0)) (m ((c : Thread nD τ).loc main_arg5)) (m ((c : Thread nD τ).loc main_arg6)) i d

/-- The result array, entry by entry. -/
def result (c : Dev nD) (y : S4x128x4096.Idx) : EReal := unshifted (scores m c (y 0) (y 2)) (vals m c (y 0) (y 1))

/-- A query of point `t`'s tile is a projection of the point's image. -/
theorem query_arg (c : Dev nD) (t : Fin cfg0.N) (k : Fin 64) (n : Fin 2048) :
    k0_pay6 (queryTile m c t) (iblk m c 1 t) (iblk m c 2 t) (ix2 k n)
      = proj (m ((c : Thread nD τ).loc main_arg0)) (m ((c : Thread nD τ).loc main_arg1)) (m ((c : Thread nD τ).loc main_arg2))
          (image t) k ⟨2048 * (t.val % 2) + n.val, by have := n.isLt; omega⟩ := by
  refine (query_at _ _ _ k n).trans ?_
  unfold proj
  refine Ideal.add_congr (Finset.sum_congr rfl fun d _ => Ideal.mul_congr (blk1 m c t k d) (tile_at m c t d n)) (blk2 m c t k)

/-- A key point `t` stores is a projection of the point's image. -/
theorem key_arg (c : Dev nD) (t : Fin cfg0.N) (k : Fin 64) (j : Fin 4096) :
    k0_pay3 (iblk m c 0 t) (iblk m c 3 t) (iblk m c 4 t) (ix2 k j)
      = proj (m ((c : Thread nD τ).loc main_arg0)) (m ((c : Thread nD τ).loc main_arg3)) (m ((c : Thread nD τ).loc main_arg4))
          (image t) k j := by
  refine (key_at _ _ _ k j).trans ?_
  unfold proj
  refine Ideal.add_congr (Finset.sum_congr rfl fun d _ => Ideal.mul_congr (blk3 m c t k d) (blk0 m c t d j)) (blk4 m c t k)

/-- A value point `t` stores is a projection of the point's image. -/
theorem value_arg (c : Dev nD) (t : Fin cfg0.N) (k : Fin 128) (j : Fin 4096) :
    valueRows (iblk m c 0 t) (iblk m c 5 t) (iblk m c 6 t) (ix2 ⟨k.val, lt_trans k.isLt (by decide)⟩ j)
      = vals m c (image t) k j := by
  refine (valueRows_lo _ _ _ k j).trans ((value_at _ _ _ k j).trans ?_)
  unfold vals proj
  refine Ideal.add_congr (Finset.sum_congr rfl fun d _ => Ideal.mul_congr (blk5 m c t k d) (blk0 m c t d j)) (blk6 m c t k)

/-- The output block of a point over the keys and values of its image, whichever point `s` of the image stored them. -/
theorem tile_result (c : Dev nD) (t s : Fin cfg0.N) (hs : image s = image t) (d : Fin 128) (n : Fin 2048) :
    tileOut (queryTile m c t) (iblk m c 1 t) (iblk m c 2 t) (k0_pay3 (iblk m c 0 s) (iblk m c 3 s) (iblk m c 4 s))
        (valueRows (iblk m c 0 s) (iblk m c 5 s) (iblk m c 6 s)) (ix3 0 d n)
      = unshifted (scores m c (image t) ⟨2048 * (t.val % 2) + n.val, by have := n.isLt; omega⟩) (vals m c (image t) d) := by
  have he : ∀ j : Fin 4096, (∑ k : Fin 64, k0_pay6 (queryTile m c t) (iblk m c 1 t) (iblk m c 2 t) (ix2 k n)
        * k0_pay3 (iblk m c 0 s) (iblk m c 3 s) (iblk m c 4 s) (ix2 k j) : EReal)
      = scores m c (image t) ⟨2048 * (t.val % 2) + n.val, by have := n.isLt; omega⟩ j := fun j => by
    unfold scores score
    rw [← hs]
    refine Finset.sum_congr rfl fun k _ => Ideal.mul_congr ((query_arg m c t k n).trans ?_) (key_arg m c s k j)
    rw [hs]
  refine (tileOut_at _ _ _ _ _ (ix3 0 d n)).trans ?_
  unfold unshifted
  refine Ideal.mul_congr (Finset.sum_congr rfl fun j _ => Ideal.mul_congr ?_ (congrArg Ideal.exp (he j)))
    (congrArg (Ideal.div 1) (Finset.sum_congr rfl fun j _ => Ideal.mul_congr ?_ (congrArg Ideal.exp (he j))))
  · exact (value_arg m c s d j).trans (by rw [hs])
  · exact valueRows_hi _ _ _ j

/-- What every point leaves in its output block. -/
theorem point (c : Dev nD) (t : Fin cfg0.N) (d : Fin 128) (n : Fin 2048) :
    (outsAt0 m c t.val t.isLt).1 (ix3 0 d n)
      = unshifted (scores m c (image t) ⟨2048 * (t.val % 2) + n.val, by have := n.isLt; omega⟩) (vals m c (image t) d) := by
  by_cases h0 : t.val % 2 = 0
  · rw [out_A m c t h0]
    exact tile_result m c t t rfl d n
  · have hlt : t.val - 1 < cfg0.N := lt_of_le_of_lt (Nat.sub_le _ _) t.isLt
    have hev : (⟨t.val - 1, hlt⟩ : Fin cfg0.N).val % 2 = 0 := by show (t.val - 1) % 2 = 0; omega
    rw [out_B m c t h0, keys_A m c ⟨t.val - 1, hlt⟩ hev, values_A m c ⟨t.val - 1, hlt⟩ hev]
    exact tile_result m c t ⟨t.val - 1, hlt⟩ (Fin.ext (by show (t.val - 1) / 2 = t.val / 2; omega)) d n

/-- Where entry `y` of point `t`'s output block lies in the result array. -/
theorem emb_eq (t : Fin cfg0.N) (y : S1x128x2048.Idx) : ((win0_7.blk t).view.emb y : S4x128x4096.Idx)
    = ix3 (image t) (y 1) ⟨2048 * (t.val % 2) + (y 2).val, by have : (y 2).val < 2048 := (y 2).isLt; omega⟩ := by
  blk_ext [idx t, image]

/-- What point `t` leaves at entry `y` of its output block is the result's entry there. -/
theorem point_emb (c : Dev nD) (t : Fin cfg0.N) (y : S1x128x2048.Idx) :
    (outsAt0 m c t.val t.isLt).1 y = result m c ((win0_7.blk t).view.emb y) := by
  have hy : y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  refine Eq.trans (congrArg _ hy) ((point m c t (y 1) (y 2)).trans ?_)
  rw [emb_eq t y]
  rfl

/-- The array the run leaves is the result. -/
theorem final (c : Dev nD) : (dats m 0 c).arrAt 7 cfg0.N = result m c := by
  refine (dats m 0 c).arrAt_eq_of_covers 7 _ (by decide +kernel) fun t _ y => ?_
  blk_simp
  rw [after0_7]
  exact point_emb m c t y

end Cert.KernelIdeal.Value

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite_scores
public import proofs.«01_k».proof.Proof.Gen.ReferenceIdeal.Run
public import proofs.«01_k».proof.Proof.Finite
public import proofs.«01_k».proof.Proof.Reference
public import proofs.«01_k».proof.Proof.Result
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, leaves its arguments as they were and its counters at zero. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem quiescent_ReferenceIdeal_pre_finite_scores : Cert.quiescent_ReferenceIdeal_pre_finite_scores := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every entry of the reference's result is the kernel's, once the scores are real. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (hreal : ∀ i n j, ∃ r : ℝ, Cert.KernelIdeal.Value.scores m c i n j = (r : EReal))
    (i : Fin 4) (d : Fin 128) (n : Fin 4096) :
    Cert.ReferenceIdeal.Value.res_main_v26 m' c (ix3 i d n) = Cert.KernelIdeal.Value.result m c (ix3 i d n) := by
  rw [Cert.ReferenceIdeal.Value.res_at m' c i d n, h0, h1, h2, h3, h4, h5, h6]
  exact (Cert.Attn.unshifted_eq_shifted _ (Cert.KernelIdeal.Value.vals m c i d) (hreal i n)).symm

/-- With real scores the kernel's result array is the reference's. -/
theorem algebraic_KernelIdeal_ReferenceIdeal_pre_finite_scores : Cert.algebraic_KernelIdeal_ReferenceIdeal_pre_finite_scores := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6⟩ := hagree c
  obtain ⟨r0, r1, r2, r3, r4⟩ := Cert.Pre_finite_scores.finite _ _ _ _ _ _ _ (hpre c)
  rw [(h c).1]
  refine Eq.trans (funext fun y => ?_) (Cert.KernelIdeal.Value.final m c).symm
  have hy : y = ix3 (y 0) (y 1) (y 2) := by
    funext a
    match a with
    | ⟨0, _⟩ => rfl
    | ⟨1, _⟩ => rfl
    | ⟨2, _⟩ => rfl
  refine (congrArg _ hy).trans ((res_eq m m' c h0 h1 h2 h3 h4 h5 h6 (fun i n j => ?_) (y 0) (y 1) (y 2)).trans (congrArg _ hy.symm))
  exact Cert.Attn.dot_real (fun k => Cert.Attn.proj_real r0 r1 r2 i k n) fun k => Cert.Attn.proj_real r0 r3 r4 i k j

/-- The whole claim. -/
theorem claim : Cert.Claim := ⟨Cert.Kernel.Gen.facts, Cert.KernelIdeal.Gen.facts, Cert.ReferenceIdeal.Gen.facts, Cert.Pre_finite_scores.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_finite_scores, (trivial : Cert.preserves_Kernel_KernelIdeal),
  algebraic_KernelIdeal_ReferenceIdeal_pre_finite_scores⟩

end Cert.Proof

end
